-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512x28x28 : Shape := ⟨4, ![64, 512, 28, 28]⟩
abbrev S64x28x28 : Shape := ⟨3, ![64, 28, 28]⟩
abbrev S28x28x64x512 : Shape := ⟨4, ![28, 28, 64, 512]⟩
abbrev S784x64x512 : Shape := ⟨3, ![784, 64, 512]⟩
abbrev S28x28x64 : Shape := ⟨3, ![28, 28, 64]⟩
abbrev S784x64 : Shape := ⟨2, ![784, 64]⟩
abbrev S64x1024 : Shape := ⟨2, ![64, 1024]⟩
abbrev S56x64x512 : Shape := ⟨3, ![56, 64, 512]⟩
abbrev S56x64 : Shape := ⟨2, ![56, 64]⟩
abbrev S64x512 : Shape := ⟨2, ![64, 512]⟩
abbrev S1x64 : Shape := ⟨2, ![1, 64]⟩
abbrev S56x64x1 : Shape := ⟨3, ![56, 64, 1]⟩
abbrev S64 : Shape := ⟨1, ![64]⟩
abbrev S1x64x512 : Shape := ⟨3, ![1, 64, 512]⟩
abbrev S64x1 : Shape := ⟨2, ![64, 1]⟩

abbrev nBuf : Space → Nat
  | .hbm => 8
  | .vmem => 8
  | .smem => 0
  | _ => 0

abbrev bufTy : (tb : Table) → Fin (tcTables nBuf tb) → BufTy
  | .hbm, ⟨0, _⟩ => ⟨S64x512x28x28, .f32⟩
  | .hbm, ⟨1, _⟩ => ⟨S64x28x28, .i1⟩
  | .hbm, ⟨2, _⟩ => ⟨S28x28x64x512, .f32⟩
  | .hbm, ⟨3, _⟩ => ⟨S784x64x512, .f32⟩
  | .hbm, ⟨4, _⟩ => ⟨S28x28x64, .i1⟩
  | .hbm, ⟨5, _⟩ => ⟨S784x64, .i1⟩
  | .hbm, ⟨6, _⟩ => ⟨S784x64, .i32⟩
  | .hbm, ⟨7, _⟩ => ⟨S64x1024, .f32⟩
  | .local _ .vmem, ⟨0, _⟩ => ⟨S56x64x512, .f32⟩
  | .local _ .vmem, ⟨1, _⟩ => ⟨S56x64x512, .f32⟩
  | .local _ .vmem, ⟨2, _⟩ => ⟨S56x64, .i32⟩
  | .local _ .vmem, ⟨3, _⟩ => ⟨S56x64, .i32⟩
  | .local _ .vmem, ⟨4, _⟩ => ⟨S64x1024, .f32⟩
  | .local _ .vmem, ⟨5, _⟩ => ⟨S64x512, .f32⟩
  | .local _ .vmem, ⟨6, _⟩ => ⟨S64x512, .f32⟩
  | .local _ .vmem, ⟨7, _⟩ => ⟨S1x64, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![14], ![false]⟩

def k0_cond3 (i : grid0.Coords) : BitVec 1 :=
  let arg0 : BitVec 32 := BitVec.ofNat 32 (i 0).val
  let c13_i32 : BitVec 32 := 13#32
  let v19 : BitVec 1 := Scalar.cmpi .eq arg0 c13_i32
  let v20 : BitVec 32 := Scalar.extui v19
  let c0_i32_10 : BitVec 32 := 0#32
  let v21 : BitVec 1 := Scalar.cmpi .ne v20 c0_i32_10
  v21

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S56x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S56x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S64x512x28x28 : Shape := ⟨4, ![64, 512, 28, 28]⟩
abbrev S64x28x28 : Shape := ⟨3, ![64, 28, 28]⟩
abbrev S64x512 : Shape := ⟨2, ![64, 512]⟩
abbrev S64x512x1x1 : Shape := ⟨4, ![64, 512, 1, 1]⟩
abbrev S_ : Shape := ⟨0, ![]⟩
abbrev S64 : Shape := ⟨1, ![64]⟩
abbrev S64x1 : Shape := ⟨2, ![64, 1]⟩
abbrev S64x1024 : Shape := ⟨2, ![64, 1024]⟩

abbrev nBuf : Space → Nat
  | .hbm => 21
  | .vmem => 0
  | .smem => 0
  | _ => 0

abbrev bufTy : (tb : Table) → Fin (tcTables nBuf tb) → BufTy
  | .hbm, ⟨0, _⟩ => ⟨S64x512x28x28, .f32⟩
  | .hbm, ⟨1, _⟩ => ⟨S64x28x28, .i1⟩
  | .hbm, ⟨2, _⟩ => ⟨S64x28x28, .f32⟩
  | .hbm, ⟨3, _⟩ => ⟨S64x512, .f32⟩
  | .hbm, ⟨4, _⟩ => ⟨S64x512x1x1, .f32⟩
  | .hbm, ⟨5, _⟩ => ⟨S64x512, .f32⟩
  | .hbm, ⟨6, _⟩ => ⟨S64x512, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .i1⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64x1, .f32⟩
  | .hbm, ⟨16, _⟩ => ⟨S64x512, .f32⟩
  | .hbm, ⟨17, _⟩ => ⟨S64x512, .f32⟩
  | .hbm, ⟨18, _⟩ => ⟨S_, .f32⟩
  | .hbm, ⟨19, _⟩ => ⟨S64x512, .f32⟩
  | .hbm, ⟨20, _⟩ => ⟨S64x1024, .f32⟩
  | _, _ => ⟨S64x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Spec.lean ====
/-
  The pooled array, as both programs compute it over the extended reals: from images `x` (64 images, 512 channels, 28 by
  28 pixels) and a mask `v` (64 images, 28 by 28 pixels) an array of 64 rows and 1024 columns. In row `b`, the first 512
  columns hold each channel's masked sum, with the channel's first pixel added once more, over the number of pixels
  the mask keeps (over one where it keeps none); the last 512 columns hold each channel's largest pixel.
-/
module

public import Idealize.ShloMosaic.Lib.Pointwise

@[expose] public section

noncomputable section

namespace Cert.Pool

open Idealize.ShloMosaic

/-- The images. -/
abbrev Images : Type := Vec Ideal ⟨4, ![64, 512, 28, 28]⟩ .f32

/-- The mask: one bit to a pixel of an image, shared by its channels. -/
abbrev Mask : Type := Vec Ideal ⟨3, ![64, 28, 28]⟩ .i1

/-- The mask's bit as a number: one where the pixel is kept, zero where it is not. -/
def weight (v : Mask) (b : Fin 64) (h w : Fin 28) : EReal := FloatOps.uitofp (F := Ideal) .f32 (v (ix3 b h w))

/-- The sum of a channel's kept pixels, and its first pixel once more. -/
def total (x : Images) (v : Mask) (b : Fin 64) (k : Fin 512) : EReal :=
  (∑ h : Fin 28, ∑ w : Fin 28, x (ix4 b k h w) * weight v b h w) + x (ix4 b k 0 0)

/-- The number of pixels of an image that the mask keeps. -/
def kept (v : Mask) (b : Fin 64) : EReal := ∑ h : Fin 28, ∑ w : Fin 28, weight v b h w

/-- A masked total over a count, the count read as one where it is zero. -/
def ratio (s n : EReal) : EReal := Ideal.div s (if n = 0 then 1 else n)

/-- The value a maximum starts from: the one the binary32 pattern of minus infinity stands for. -/
def least : EReal := Ideal.ofBits .f32 0xFF800000#32

/-- A channel's largest pixel. -/
def largest (x : Images) (b : Fin 64) (k : Fin 512) : EReal :=
  (Finset.univ : Finset (Fin 28 × Fin 28)).fold max least (fun q => x (ix4 b k q.1 q.2))

/-- The pooled array at row `b`, column `l`. -/
def pooledAt (x : Images) (v : Mask) (b : Fin 64) (l : Fin 1024) : EReal :=
  if h : l.val < 512 then ratio (total x v b ⟨l.val, h⟩) (kept v b)
  else largest x b ⟨l.val - 512, by have := l.isLt; omega⟩

end Cert.Pool

end
-- ==== Proof.Steps.lean ====
/-
  What one block of 56 pixels contributes: the values the kernel's body computes from a block of pixels `x` and of mask
  words `u`, read at an index over the extended reals.
-/
module

public import proofs.«01_k».proof.Proof.Spec
public import proofs.«01_k».proof.Proof.Gen.KernelIdeal.Skeleton

@[expose] public section

set_option maxRecDepth 16384

noncomputable section

namespace Cert.Pool

open Idealize.ShloMosaic Cert.KernelIdeal Cert.KernelIdeal.Gen

/-- The kernel's weight of a mask word: the truth of «the word is not zero», widened and converted. -/
def wordWeight (u : BitVec 32) : EReal :=
  FloatOps.sitofp (F := Ideal) .f32 (BitVec.setWidth 32 (IntOp.cmpi .ne u 0#32))

/-- Of a mask bit widened to a word, the kernel's weight is the bit as a number. -/
theorem wordWeight_bit (a : BitVec 1) : wordWeight (BitVec.setWidth 32 a) = FloatOps.uitofp (F := Ideal) .f32 a := by
  rcases BitVec.eq_zero_or_eq_one a with rfl | rfl
  · show (((_ : BitVec 32).toInt : ℝ) : EReal) = (((0#1).toNat : ℝ) : EReal)
    rw [show (BitVec.setWidth 32 (IntOp.cmpi .ne (BitVec.setWidth 32 0#1) 0#32)).toInt = 0 by decide]
    simp
  · show (((_ : BitVec 32).toInt : ℝ) : EReal) = (((1#1).toNat : ℝ) : EReal)
    rw [show (BitVec.setWidth 32 (IntOp.cmpi .ne (BitVec.setWidth 32 1#1) 0#32)).toInt = 1 by decide]
    simp

variable (x : Vec Ideal S56x64x512 .f32) (u : Vec Ideal S56x64 .i32)

/-- The first block's sums: the block's masked sum and its first pixel. -/
theorem firstSum (b : Fin 64) (k : Fin 512) :
    k0_pay6 x u (ix2 b k) = (∑ r : Fin 56, x (ix3 r b k) * wordWeight (u (ix2 r b))) + x (ix3 0 b k) := by
  pointwise [k0_pay6, k0_pay3, k0_pay2, k0_pay1]
  rfl

/-- A later block's sums: the sums so far and the block's masked sum. -/
theorem nextSum (s : Vec Ideal S64x512 .f32) (b : Fin 64) (k : Fin 512) :
    k0_pay9 x u s (ix2 b k) = s (ix2 b k) + ∑ r : Fin 56, x (ix3 r b k) * wordWeight (u (ix2 r b)) := by
  pointwise [k0_pay9, k0_pay3, k0_pay2, k0_pay1]
  rfl

/-- The first block's maxima. -/
theorem firstMax (b : Fin 64) (k : Fin 512) :
    k0_pay7 x (ix2 b k) = (Finset.univ : Finset (Fin 56)).fold max least (fun r => x (ix3 r b k)) := by
  pointwise [k0_pay7, k0_pay4, k0_pay1]
  rfl

/-- A later block's maxima: the larger of the maxima so far and the block's. -/
theorem nextMax (s : Vec Ideal S64x512 .f32) (b : Fin 64) (k : Fin 512) :
    k0_pay10 x s (ix2 b k)
      = max (s (ix2 b k)) ((Finset.univ : Finset (Fin 56)).fold max least (fun r => x (ix3 r b k))) := by
  pointwise [k0_pay10, k0_pay4, k0_pay1]
  rfl

/-- The first block's counts. -/
theorem firstCount (b : Fin 64) : k0_pay8 u (ix2 0 b) = ∑ r : Fin 56, wordWeight (u (ix2 r b)) := by
  pointwise [k0_pay8, k0_pay5, k0_pay2]
  rfl

/-- A later block's counts: the counts so far and the block's. -/
theorem nextCount (s : Vec Ideal S1x64 .f32) (b : Fin 64) :
    k0_pay11 u s (ix2 0 b) = s (ix2 0 b) + ∑ r : Fin 56, wordWeight (u (ix2 r b)) := by
  pointwise [k0_pay11, k0_pay5, k0_pay2]
  rfl

/-- The quotient the last block writes, from the counts `n` and the sums `s`. -/
theorem lastRatio (n : Vec Ideal S1x64 .f32) (s : Vec Ideal S64x512 .f32) (b : Fin 64) (k : Fin 512) :
    k0_pay12 n s (ix2 b k) = ratio (s (ix2 b k)) (n (ix2 0 b)) := by
  pointwise [k0_pay12]
  rfl

end Cert.Pool

end
-- ==== Proof.Tiling.lean ====
/-
  The 784 pixels of a 28 by 28 image, walked in one line: position `p` is the pixel in row `p / 28`, column `p % 28`.
  The kernel walks them 56 at a time, in 14 blocks; the reference takes all rows and all columns at once. This module
  states that a sum, or a maximum, over the positions is the one over the rows and the columns, and how a sum or a
  maximum over the first blocks grows by one block.
-/
module

public import Mathlib.Data.EReal.Operations
public import Mathlib.Data.Finset.Fold
public import Mathlib.Algebra.BigOperators.Fin
public import Mathlib.Logic.Equiv.Fin.Basic

@[expose] public section

namespace Cert.Pool

/-- The image row of position `p`. -/
def row (p : ℕ) : Fin 28 := ⟨p / 28 % 28, Nat.mod_lt _ (by decide)⟩

/-- The image column of position `p`. -/
def col (p : ℕ) : Fin 28 := ⟨p % 28, Nat.mod_lt _ (by decide)⟩

/-- The position `w + 28 h` lies in row `h`. -/
theorem row_pos (h w : Fin 28) : row (w.val + 28 * h.val) = h := by
  apply Fin.ext; have := h.isLt; have := w.isLt; simp only [row]; omega

/-- The position `w + 28 h` lies in column `w`. -/
theorem col_pos (h w : Fin 28) : col (w.val + 28 * h.val) = w := by
  apply Fin.ext; have := w.isLt; simp only [col]; omega

/-- A position below 784 is recovered from its row and its column. -/
theorem pos_row_col (p : ℕ) (hp : p < 784) : (col p).val + 28 * (row p).val = p := by
  simp only [row, col]; omega

/-- A sum over the first 784 positions is the sum over rows and columns. -/
theorem sum_positions (f : Fin 28 → Fin 28 → EReal) :
    ∑ p ∈ Finset.range 784, f (row p) (col p) = ∑ h : Fin 28, ∑ w : Fin 28, f h w := by
  rw [← Fintype.sum_prod_type']
  refine Finset.sum_bij' (fun p _ => (row p, col p)) (fun q _ => q.2.val + 28 * q.1.val) ?_ ?_ ?_ ?_ ?_
  · intro p _; exact Finset.mem_univ _
  · intro q _; have := q.1.isLt; have := q.2.isLt; rw [Finset.mem_range]; omega
  · intro p hp; exact pos_row_col p (Finset.mem_range.mp hp)
  · intro q _; exact Prod.ext (row_pos q.1 q.2) (col_pos q.1 q.2)
  · intro p _; rfl

/-- The sum over the first `a + 56` positions is the sum over the first `a` and the sum over one more block of 56. -/
theorem sum_block (f : ℕ → EReal) (a : ℕ) :
    ∑ p ∈ Finset.range (a + 56), f p = ∑ p ∈ Finset.range a, f p + ∑ r : Fin 56, f (a + r.val) := by
  rw [Finset.sum_range_add, Finset.sum_range (fun x => f (a + x))]

/-- The maximum of `b` and of `f` over the first 784 positions is the one over rows and columns. -/
theorem max_positions (f : Fin 28 → Fin 28 → EReal) (b : EReal) :
    (Finset.range 784).fold max b (fun p => f (row p) (col p))
      = (Finset.univ : Finset (Fin 28 × Fin 28)).fold max b (fun q => f q.1 q.2) := by
  refine eq_of_forall_ge_iff fun c => ?_
  rw [Finset.fold_max_le, Finset.fold_max_le]
  refine and_congr_right fun _ => ⟨fun h q _ => ?_, fun h p _ => h (row p, col p) (Finset.mem_univ _)⟩
  have := h (q.2.val + 28 * q.1.val)
    (by have := q.1.isLt; have := q.2.isLt; rw [Finset.mem_range]; omega)
  rwa [row_pos, col_pos] at this

/-- The maximum over the first block of 56 positions. -/
theorem max_first (f : ℕ → EReal) (b : EReal) :
    (Finset.univ : Finset (Fin 56)).fold max b (fun r => f r.val) = (Finset.range 56).fold max b f := by
  refine eq_of_forall_ge_iff fun c => ?_
  rw [Finset.fold_max_le, Finset.fold_max_le]
  exact and_congr_right fun _ => ⟨fun h p hp => h ⟨p, Finset.mem_range.mp hp⟩ (Finset.mem_univ _),
    fun h r _ => h r.val (Finset.mem_range.mpr r.isLt)⟩

/-- The larger of the maximum over the first `a` positions and the maximum over one more block of 56 is the maximum
    over the first `a + 56`. -/
theorem max_block (f : ℕ → EReal) (b : EReal) (a : ℕ) :
    max ((Finset.range a).fold max b f) ((Finset.univ : Finset (Fin 56)).fold max b (fun r => f (a + r.val)))
      = (Finset.range (a + 56)).fold max b f := by
  refine eq_of_forall_ge_iff fun c => ?_
  rw [max_le_iff, Finset.fold_max_le, Finset.fold_max_le, Finset.fold_max_le]
  constructor
  · rintro ⟨⟨hb, h1⟩, _, h2⟩
    refine ⟨hb, fun p hp => ?_⟩
    rw [Finset.mem_range] at hp
    by_cases h : p < a
    · exact h1 p (Finset.mem_range.mpr h)
    · have := h2 ⟨p - a, by omega⟩ (Finset.mem_univ _)
      rwa [show a + (p - a) = p by omega] at this
  · rintro ⟨hb, h⟩
    exact ⟨⟨hb, fun p hp => h p (by rw [Finset.mem_range] at hp ⊢; omega)⟩, hb,
      fun r _ => h _ (by rw [Finset.mem_range]; have := r.isLt; omega)⟩

end Cert.Pool

end
-- ==== Proof.Blocks.lean ====
/-
  What the kernel's blocks hold: the block of pixels and the block of mask words that grid point `t` reads are the images
  and the mask at positions `56 t` to `56 t + 55`, each position's row and column read off it.
-/
module

public import proofs.«01_k».proof.Proof.Tiling
public import proofs.«01_k».proof.Proof.Spec
public import proofs.«01_k».proof.Proof.Gen.KernelIdeal.Value
public import Idealize.ShloMosaic.Lib.Claim
public import Idealize.ShloMosaic.Lib.Tactic
public import Idealize.ShloMosaic.Lib.Pipeline.ValueKit

@[expose] public section

set_option maxRecDepth 16384

noncomputable section

namespace Cert.Pool

open Idealize.ShloMosaic Idealize.ShloMosaic.TcCoe Cert.KernelIdeal Cert.KernelIdeal.Gen

variable {F : FTy → Type} [FloatOps F] (m : (ℓ : Loc nD τ sig) → Buf (Elt F) ℓ) (c : Dev nD)

/-- Grid point `t` reads block `t` of the pixels, all images and all channels of it. -/
theorem imageBlock : ∀ t : Fin cfg0.N, win0_0.index t = ![t.val, 0, 0] := by decide +kernel

/-- Grid point `t` reads block `t` of the mask words, all images of it. -/
theorem maskBlock : ∀ t : Fin cfg0.N, win0_1.index t = ![t.val, 0] := by decide +kernel

/-- A position below 784 lies in row `p / 28`. -/
theorem row_of_lt (p : ℕ) (h : p / 28 < 28) : (⟨p / 28, h⟩ : Fin 28) = row p :=
  Fin.ext (Nat.mod_eq_of_lt h).symm

/-- The array of pixels the grid reads: positions in front, then images, then channels. -/
theorem imageArray (p : Fin 784) (b : Fin 64) (k : Fin 512) :
    (V m c main_v1 : Vec F S784x64x512 .f32) (ix3 p b k)
      = (m ((c : Thread nD τ).loc main_arg0) : Vec F S64x512x28x28 .f32) (ix4 b k (row p.val) (col p.val)) := by
  entry_read
  pointwise
  rw [row_of_lt]
  rfl

/-- The array of mask words the grid reads: positions in front, then images, each bit widened to a word. -/
theorem maskArray (p : Fin 784) (b : Fin 64) :
    (V m c main_v4 : Vec F S784x64 .i32) (ix2 p b)
      = BitVec.setWidth 32
          ((m ((c : Thread nD τ).loc main_arg1) : Vec F S64x28x28 .i1) (ix3 b (row p.val) (col p.val)) : BitVec 1) := by
  entry_read
  pointwise
  rw [row_of_lt]
  rfl

/-- The block of pixels at point `t`: at row `r`, the pixel at position `56 t + r`. -/
theorem imageBlock_apply (t : Fin cfg0.N) (r : Fin 56) (b : Fin 64) (k : Fin 512) :
    (iblk m c 0 t : Vec F S56x64x512 .f32) (ix3 r b k)
      = (m ((c : Thread nD τ).loc main_arg0) : Vec F S64x512x28x28 .f32)
          (ix4 b k (row (56 * t.val + r.val)) (col (56 * t.val + r.val))) := by
  have hp : 56 * t.val + r.val < 784 := by
    have := lt_of_lt_of_eq t.isLt (N_0 : cfg0.N = 14); have := r.isLt; omega
  rw [← imageArray m c ⟨56 * t.val + r.val, hp⟩ b k]
  blk_ext [iblk, imageBlock t]

/-- The block of mask words at point `t`: at row `r`, the bit at position `56 t + r`, widened to a word. -/
theorem maskBlock_apply (t : Fin cfg0.N) (r : Fin 56) (b : Fin 64) :
    (iblk m c 1 t : Vec F S56x64 .i32) (ix2 r b)
      = BitVec.setWidth 32 ((m ((c : Thread nD τ).loc main_arg1) : Vec F S64x28x28 .i1)
          (ix3 b (row (56 * t.val + r.val)) (col (56 * t.val + r.val))) : BitVec 1) := by
  have hp : 56 * t.val + r.val < 784 := by
    have := lt_of_lt_of_eq t.isLt (N_0 : cfg0.N = 14); have := r.isLt; omega
  rw [← maskArray m c ⟨56 * t.val + r.val, hp⟩ b]
  blk_ext [iblk, maskBlock t]

end Cert.Pool

end
-- ==== Proof.Cases.lean ====
/-
  What the kernel's body leaves behind at one grid point: at the first point, at a middle point and at the last, each
  carried scratch array holds one named value of the body, and at the last point the output block holds the quotients in
  its first 512 columns and the maxima in its last 512.
-/
module

public import proofs.«01_k».proof.Proof.Gen.KernelIdeal.Value
public import Idealize.ShloMosaic.Lib.Tactic
public import Idealize.ShloMosaic.Lib.Pipeline.Value
public import Idealize.ShloMosaic.Lib.Pipeline.ValueKit
public import Idealize.ShloMosaic.Lib.Pointwise.Index

@[expose] public section

set_option maxRecDepth 16384

noncomputable section

namespace Cert.Pool

open Idealize.ShloMosaic Cert.KernelIdeal Cert.KernelIdeal.Gen

variable {F : FTy → Type} [FloatOps F]

/-- The start of a whole two-axis array is zero on each axis. -/
theorem off2 : (![0, 0] : Fin 2 → Nat) = fun _ => 0 := funext fun a => by fin_cases a <;> rfl

/-- The start of a whole three-axis array is zero on each axis. -/
theorem off3 : (![0, 0, 0] : Fin 3 → Nat) = fun _ => 0 := funext fun a => by fin_cases a <;> rfl

variable (c : Dev nD) (i : grid0.Coords)
  (a1 : Memref sig .tc .vmem S56x64x512 .f32) (h1 : a1.IsWhole) (a2 : Memref sig .tc .vmem S56x64 .i32) (h2 : a2.IsWhole)
  (a3 : Memref sig .tc .vmem S64x1024 .f32) (h3 : a3.IsWhole) (a4 : Memref sig .tc .vmem S64x512 .f32) (h4 : a4.IsWhole)
  (a5 : Memref sig .tc .vmem S64x512 .f32) (h5 : a5.IsWhole) (a6 : Memref sig .tc .vmem S1x64 .f32) (h6 : a6.IsWhole)
  (x : Vec F S56x64x512 .f32) (u : Vec F S56x64 .i32) (s t : Vec F S64x512 .f32) (n : Vec F S1x64 .f32)

/-- The first point leaves the first block's sums. -/
theorem firstPoint_sum (c0 : cond0_0 i) (c1 : ¬cond0_1 i) (c2 : ¬cond0_2 i) :
    sout0_A_0 c i a1 h1 a2 h2 a3 h3 a4 h4 a5 h5 a6 h6 c0 c1 c2 x u = k0_pay6 x u := by
  unfold sout0_A_0
  rw [View.read_writes_eq_canon _ _ _ (scover0_A_0 c i a1 h1 a2 h2 a3 h3 a4 h4 a5 h5 a6 h6 c0 c1 c2 x u)]
  unfold kernelRun0_A
  dsimp only
  sl_unfold_words
  rw [View.canon_unit_zero off2]
  simp only [View.readAt_eq_ld, h1.read_unread, h2.read_unread, h4.read_unread, h5.read_unread, h6.read_unread,
    View.ld_unit_zero (S := S56x64x512) off3, View.ld_unit_zero (S := S56x64) off2, View.ld_unit_zero (S := S64x512) off2,
    View.ld_unit_zero (S := S1x64) off2]

/-- The first point leaves the first block's maxima. -/
theorem firstPoint_max (c0 : cond0_0 i) (c1 : ¬cond0_1 i) (c2 : ¬cond0_2 i) :
    sout0_A_1 c i a1 h1 a2 h2 a3 h3 a4 h4 a5 h5 a6 h6 c0 c1 c2 x u = k0_pay7 x := by
  unfold sout0_A_1
  rw [View.read_writes_eq_canon _ _ _ (scover0_A_1 c i a1 h1 a2 h2 a3 h3 a4 h4 a5 h5 a6 h6 c0 c1 c2 x u)]
  unfold kernelRun0_A
  dsimp only
  sl_unfold_words
  rw [View.canon_unit_zero off2]
  simp only [View.readAt_eq_ld, h1.read_unread, h2.read_unread, h4.read_unread, h5.read_unread, h6.read_unread,
    View.ld_unit_zero (S := S56x64x512) off3, View.ld_unit_zero (S := S56x64) off2, View.ld_unit_zero (S := S64x512) off2,
    View.ld_unit_zero (S := S1x64) off2]

/-- The first point leaves the first block's counts. -/
theorem firstPoint_count (c0 : cond0_0 i) (c1 : ¬cond0_1 i) (c2 : ¬cond0_2 i) :
    sout0_A_2 c i a1 h1 a2 h2 a3 h3 a4 h4 a5 h5 a6 h6 c0 c1 c2 x u = k0_pay8 u := by
  unfold sout0_A_2
  rw [View.read_writes_eq_canon _ _ _ (scover0_A_2 c i a1 h1 a2 h2 a3 h3 a4 h4 a5 h5 a6 h6 c0 c1 c2 x u)]
  unfold kernelRun0_A
  dsimp only
  sl_unfold_words
  rw [View.canon_unit_zero off2]
  simp only [View.readAt_eq_ld, h1.read_unread, h2.read_unread, h4.read_unread, h5.read_unread, h6.read_unread,
    View.ld_unit_zero (S := S56x64x512) off3, View.ld_unit_zero (S := S56x64) off2, View.ld_unit_zero (S := S64x512) off2,
    View.ld_unit_zero (S := S1x64) off2]

/-- A middle point takes its block into the sums. -/
theorem middlePoint_sum (c0 : ¬cond0_0 i) (c1 : cond0_1 i) (c2 : ¬cond0_2 i) :
    sout0_B_0 c i a1 h1 a2 h2 a3 h3 a4 h4 a5 h5 a6 h6 c0 c1 c2 x u s t n = k0_pay9 x u s := by
  unfold sout0_B_0
  rw [View.read_writes_eq_canon _ _ _ (scover0_B_0 c i a1 h1 a2 h2 a3 h3 a4 h4 a5 h5 a6 h6 c0 c1 c2 x u s t n)]
  unfold kernelRun0_B
  dsimp only
  sl_unfold_words
  rw [View.canon_unit_zero off2]
  simp only [View.readAt_eq_ld, h1.read_unread, h2.read_unread, h4.read_unread, h5.read_unread, h6.read_unread,
    View.ld_unit_zero (S := S56x64x512) off3, View.ld_unit_zero (S := S56x64) off2, View.ld_unit_zero (S := S64x512) off2,
    View.ld_unit_zero (S := S1x64) off2]

/-- A middle point takes its block into the maxima. -/
theorem middlePoint_max (c0 : ¬cond0_0 i) (c1 : cond0_1 i) (c2 : ¬cond0_2 i) :
    sout0_B_1 c i a1 h1 a2 h2 a3 h3 a4 h4 a5 h5 a6 h6 c0 c1 c2 x u s t n = k0_pay10 x t := by
  unfold sout0_B_1
  rw [View.read_writes_eq_canon _ _ _ (scover0_B_1 c i a1 h1 a2 h2 a3 h3 a4 h4 a5 h5 a6 h6 c0 c1 c2 x u s t n)]
  unfold kernelRun0_B
  dsimp only
  sl_unfold_words
  rw [View.canon_unit_zero off2]
  simp only [View.readAt_eq_ld, h1.read_unread, h2.read_unread, h4.read_unread, h5.read_unread, h6.read_unread,
    View.ld_unit_zero (S := S56x64x512) off3, View.ld_unit_zero (S := S56x64) off2, View.ld_unit_zero (S := S64x512) off2,
    View.ld_unit_zero (S := S1x64) off2]

/-- A middle point takes its block into the counts. -/
theorem middlePoint_count (c0 : ¬cond0_0 i) (c1 : cond0_1 i) (c2 : ¬cond0_2 i) :
    sout0_B_2 c i a1 h1 a2 h2 a3 h3 a4 h4 a5 h5 a6 h6 c0 c1 c2 x u s t n = k0_pay11 u n := by
  unfold sout0_B_2
  rw [View.read_writes_eq_canon _ _ _ (scover0_B_2 c i a1 h1 a2 h2 a3 h3 a4 h4 a5 h5 a6 h6 c0 c1 c2 x u s t n)]
  unfold kernelRun0_B
  dsimp only
  sl_unfold_words
  rw [View.canon_unit_zero off2]
  simp only [View.readAt_eq_ld, h1.read_unread, h2.read_unread, h4.read_unread, h5.read_unread, h6.read_unread,
    View.ld_unit_zero (S := S56x64x512) off3, View.ld_unit_zero (S := S56x64) off2, View.ld_unit_zero (S := S64x512) off2,
    View.ld_unit_zero (S := S1x64) off2]

/-- The last point takes its block into the sums. -/
theorem lastPoint_sum (c0 : ¬cond0_0 i) (c1 : cond0_1 i) (c2 : cond0_2 i) :
    sout0_C_0 c i a1 h1 a2 h2 a3 h3 a4 h4 a5 h5 a6 h6 c0 c1 c2 x u s t n = k0_pay9 x u s := by
  unfold sout0_C_0
  rw [View.read_writes_eq_canon _ _ _ (scover0_C_0 c i a1 h1 a2 h2 a3 h3 a4 h4 a5 h5 a6 h6 c0 c1 c2 x u s t n)]
  unfold kernelRun0_C
  dsimp only
  sl_unfold_words
  rw [View.canon_unit_zero off2]
  simp only [View.readAt_eq_ld, h1.read_unread, h2.read_unread, h4.read_unread, h5.read_unread, h6.read_unread,
    View.ld_unit_zero (S := S56x64x512) off3, View.ld_unit_zero (S := S56x64) off2, View.ld_unit_zero (S := S64x512) off2,
    View.ld_unit_zero (S := S1x64) off2]

/-- The last point takes its block into the maxima. -/
theorem lastPoint_max (c0 : ¬cond0_0 i) (c1 : cond0_1 i) (c2 : cond0_2 i) :
    sout0_C_1 c i a1 h1 a2 h2 a3 h3 a4 h4 a5 h5 a6 h6 c0 c1 c2 x u s t n = k0_pay10 x t := by
  unfold sout0_C_1
  rw [View.read_writes_eq_canon _ _ _ (scover0_C_1 c i a1 h1 a2 h2 a3 h3 a4 h4 a5 h5 a6 h6 c0 c1 c2 x u s t n)]
  unfold kernelRun0_C
  dsimp only
  sl_unfold_words
  rw [View.canon_unit_zero off2]
  simp only [View.readAt_eq_ld, h1.read_unread, h2.read_unread, h4.read_unread, h5.read_unread, h6.read_unread,
    View.ld_unit_zero (S := S56x64x512) off3, View.ld_unit_zero (S := S56x64) off2, View.ld_unit_zero (S := S64x512) off2,
    View.ld_unit_zero (S := S1x64) off2]

/-- The last point takes its block into the counts. -/
theorem lastPoint_count (c0 : ¬cond0_0 i) (c1 : cond0_1 i) (c2 : cond0_2 i) :
    sout0_C_2 c i a1 h1 a2 h2 a3 h3 a4 h4 a5 h5 a6 h6 c0 c1 c2 x u s t n = k0_pay11 u n := by
  unfold sout0_C_2
  rw [View.read_writes_eq_canon _ _ _ (scover0_C_2 c i a1 h1 a2 h2 a3 h3 a4 h4 a5 h5 a6 h6 c0 c1 c2 x u s t n)]
  unfold kernelRun0_C
  dsimp only
  sl_unfold_words
  rw [View.canon_unit_zero off2]
  simp only [View.readAt_eq_ld, h1.read_unread, h2.read_unread, h4.read_unread, h5.read_unread, h6.read_unread,
    View.ld_unit_zero (S := S56x64x512) off3, View.ld_unit_zero (S := S56x64) off2, View.ld_unit_zero (S := S64x512) off2,
    View.ld_unit_zero (S := S1x64) off2]

/-- What the last point leaves in its output block: two stores, the maxima at columns 512 to 1023 over the quotients at
    columns 0 to 511. -/
theorem lastPoint_out (c0 : ¬cond0_0 i) (c1 : cond0_1 i) (c2 : cond0_2 i) :
    out0_C_2 c i a1 h1 a2 h2 a3 h3 a4 h4 a5 h5 a6 h6 c0 c1 c2 x u s t n
      = View.canon [⟨Rect.unit ![0, 512] ![64, 512] inb_S64x1024_S64x512_0_512, k0_pay10 x t⟩,
          ⟨Rect.unit ![0, 0] ![64, 512] inb_S64x1024_S64x512_0_0, k0_pay12 (k0_pay11 u n) (k0_pay9 x u s)⟩] := by
  unfold out0_C_2
  rw [View.read_writes_eq_canon _ _ _ (cover0_C_2 c i a1 h1 a2 h2 a3 h3 a4 h4 a5 h5 a6 h6 c0 c1 c2 x u s t n)]
  unfold kernelRun0_C
  dsimp only
  sl_unfold_words
  rw [View.readCov_unit_zero (S := S64x512) _ off2, View.readCov_unit_zero (S := S64x512) _ off2,
    View.readCov_unit_zero (S := S1x64) _ off2]
  simp only [View.readAt_eq_ld, h1.read_unread, h2.read_unread, h4.read_unread, h5.read_unread, h6.read_unread,
    View.ld_unit_zero (S := S56x64x512) off3, View.ld_unit_zero (S := S56x64) off2, View.ld_unit_zero (S := S64x512) off2,
    View.ld_unit_zero (S := S1x64) off2]

/-- In the last 512 columns of the output block: the maxima. -/
theorem lastPoint_right (c0 : ¬cond0_0 i) (c1 : cond0_1 i) (c2 : cond0_2 i) (b : Fin 64) (k : Fin 512) :
    out0_C_2 c i a1 h1 a2 h2 a3 h3 a4 h4 a5 h5 a6 h6 c0 c1 c2 x u s t n (ix2 b ⟨512 + k.val, by have := k.isLt; omega⟩) = k0_pay10 x t (ix2 b k) := by
  rw [lastPoint_out]
  have e : (ix2 b ⟨512 + k.val, by have := k.isLt; omega⟩ : S64x1024.Idx)
      = (Rect.unit (s := S64x1024) ![0, 512] ![64, 512] inb_S64x1024_S64x512_0_512).emb (ix2 b k) := by
    funext a; apply Fin.ext; rw [ValueKit.rect_emb_unit_val]
    match a with
    | ⟨0, _⟩ => exact (Nat.zero_add _).symm
    | ⟨1, _⟩ => rfl
  rw [e, View.canon_cons_emb]

/-- In the first 512 columns of the output block: the quotients. -/
theorem lastPoint_left (c0 : ¬cond0_0 i) (c1 : cond0_1 i) (c2 : cond0_2 i) (b : Fin 64) (k : Fin 512) :
    out0_C_2 c i a1 h1 a2 h2 a3 h3 a4 h4 a5 h5 a6 h6 c0 c1 c2 x u s t n (ix2 b ⟨k.val, by have := k.isLt; omega⟩)
      = k0_pay12 (k0_pay11 u n) (k0_pay9 x u s) (ix2 b k) := by
  rw [lastPoint_out, View.canon_cons_of_not_mem _ _ (by
    rw [Rect.mem_set_unit]
    intro h
    have h' := (h 1).1
    have := k.isLt
    change 512 ≤ k.val at h'
    omega)]
  have e : (ix2 b ⟨k.val, by have := k.isLt; omega⟩ : S64x1024.Idx)
      = (Rect.unit (s := S64x1024) ![0, 0] ![64, 512] inb_S64x1024_S64x512_0_0).emb (ix2 b k) := by
    funext a; apply Fin.ext; rw [ValueKit.rect_emb_unit_val]
    match a with
    | ⟨0, _⟩ => exact (Nat.zero_add _).symm
    | ⟨1, _⟩ => exact (Nat.zero_add _).symm
  rw [e, View.canon_cons_emb]

end Cert.Pool

end
-- ==== Proof.Running.lean ====
/-
  What the carried scratch arrays hold after each grid point, by induction on the point: after point `n` the sums, the
  maxima and the counts are those of the first `56 (n + 1)` positions; and so, after the last point, what the kernel
  leaves as its result is the pooled array of its arguments.
-/
module

public import proofs.«01_k».proof.Proof.Steps
public import proofs.«01_k».proof.Proof.Blocks
public import proofs.«01_k».proof.Proof.Cases

@[expose] public section

noncomputable section

namespace Cert.Pool

open Idealize.ShloMosaic Idealize.ShloMosaic.TcCoe Cert.KernelIdeal Cert.KernelIdeal.Gen

variable (m : (ℓ : Loc nD τ sig) → Buf (Elt Ideal) ℓ) (c : Dev nD)

/-- The images the kernel is launched on. -/
def images : Images := (m ((c : Thread nD τ).loc main_arg0) : Vec Ideal S64x512x28x28 .f32)

/-- The mask the kernel is launched on. -/
def mask : Mask := (m ((c : Thread nD τ).loc main_arg1) : Vec Ideal S64x28x28 .i1)

/-- The pixel at position `p`. -/
def pixel (b : Fin 64) (k : Fin 512) (p : ℕ) : EReal := images m c (ix4 b k (row p) (col p))

/-- The mask's bit at position `p`, as a number. -/
def bit (b : Fin 64) (p : ℕ) : EReal := weight (mask m c) b (row p) (col p)

/-- The scratch arrays after the first `a` positions: the kept pixels' sums with the first pixel once more, the maxima,
    and the counts. -/
structure Held (a : ℕ) (s t : Vec Ideal S64x512 .f32) (n : Vec Ideal S1x64 .f32) : Prop where
  sums : ∀ (b : Fin 64) (k : Fin 512), s (ix2 b k)
    = (∑ p ∈ Finset.range a, pixel m c b k p * bit m c b p) + pixel m c b k 0
  maxima : ∀ (b : Fin 64) (k : Fin 512), t (ix2 b k) = (Finset.range a).fold max least (pixel m c b k)
  counts : ∀ b : Fin 64, n (ix2 0 b) = ∑ p ∈ Finset.range a, bit m c b p

/-- The first block's values are the scratch arrays after the first 56 positions. -/
theorem held_first (q : Fin cfg0.N) (hq : q.val = 0) :
    Held m c 56 (k0_pay6 (iblk m c 0 q) (iblk m c 1 q)) (k0_pay7 (iblk m c 0 q)) (k0_pay8 (iblk m c 1 q)) where
  sums b k := by
    rw [firstSum, Finset.sum_range]
    simp only [imageBlock_apply, maskBlock_apply, wordWeight_bit, hq, Nat.mul_zero, Nat.zero_add]
    rfl
  maxima b k := by
    rw [firstMax, ← max_first]
    simp only [imageBlock_apply, hq, Nat.mul_zero, Nat.zero_add]
    rfl
  counts b := by
    rw [firstCount, Finset.sum_range]
    simp only [maskBlock_apply, wordWeight_bit, hq, Nat.mul_zero, Nat.zero_add]
    rfl

/-- A block more: from the scratch arrays after `56 q` positions, the values of block `q` are those after `56 q + 56`. -/
theorem held_next (q : Fin cfg0.N) (s t : Vec Ideal S64x512 .f32) (n : Vec Ideal S1x64 .f32)
    (h : Held m c (56 * q.val) s t n) :
    Held m c (56 * q.val + 56) (k0_pay9 (iblk m c 0 q) (iblk m c 1 q) s) (k0_pay10 (iblk m c 0 q) t)
      (k0_pay11 (iblk m c 1 q) n) where
  sums b k := by
    rw [nextSum, h.sums, sum_block, add_right_comm]
    simp only [imageBlock_apply, maskBlock_apply, wordWeight_bit]
    rfl
  maxima b k := by
    rw [nextMax, h.maxima, ← max_block]
    simp only [imageBlock_apply]
    rfl
  counts b := by
    rw [nextCount, h.counts, sum_block]
    simp only [maskBlock_apply, wordWeight_bit]
    rfl

/-- After point `n`, the scratch arrays are those of the first `56 (n + 1)` positions. -/
theorem held (n : ℕ) (hn : n < cfg0.N) :
    Held m c (56 * (n + 1)) (outsAt0 m c n hn).2.1 (outsAt0 m c n hn).2.2.1 (outsAt0 m c n hn).2.2.2 := by
  have hN : cfg0.N = 14 := N_0
  induction n with
  | zero =>
    rw [outsAt0_A m c ⟨0, hn⟩ (Nat.zero_mod _) (Nat.not_succ_le_zero 0) (by dsimp only; omega)]
    dsimp only
    rw [firstPoint_sum, firstPoint_max, firstPoint_count]
    exact held_first m c ⟨0, hn⟩ rfl
  | succ n ih =>
    have hp := ih (Nat.lt_of_succ_lt hn)
    rw [Cert.KernelIdeal.Value.outsAt0_succ]
    generalize outsAt0 m c n (Nat.lt_of_succ_lt hn) = acc at hp ⊢
    have hk := held_next m c ⟨n + 1, hn⟩ _ _ _ hp
    by_cases hl : (n + 1) % 14 = 13
    · rw [Cert.KernelIdeal.Value.stAt0_C m c ⟨n + 1, hn⟩ acc (by dsimp only; omega) (by dsimp only; omega) hl]
      dsimp only
      rw [lastPoint_sum, lastPoint_max, lastPoint_count]
      exact hk
    · rw [Cert.KernelIdeal.Value.stAt0_B m c ⟨n + 1, hn⟩ acc (by dsimp only; omega) (by dsimp only; omega) hl]
      dsimp only
      rw [middlePoint_sum, middlePoint_max, middlePoint_count]
      exact hk

/-- After all positions, the sums are each channel's total. -/
theorem Held.total {s t : Vec Ideal S64x512 .f32} {n : Vec Ideal S1x64 .f32} (h : Held m c 784 s t n) (b : Fin 64)
    (k : Fin 512) : s (ix2 b k) = total (images m c) (mask m c) b k := by
  rw [h.sums]
  exact congrArg (· + _) (sum_positions fun h w => images m c (ix4 b k h w) * weight (mask m c) b h w)

/-- After all positions, the maxima are each channel's largest pixel. -/
theorem Held.largest {s t : Vec Ideal S64x512 .f32} {n : Vec Ideal S1x64 .f32} (h : Held m c 784 s t n) (b : Fin 64)
    (k : Fin 512) : t (ix2 b k) = largest (images m c) b k := by
  rw [h.maxima]
  exact max_positions (fun h w => images m c (ix4 b k h w)) least

/-- After all positions, the counts are each image's number of kept pixels. -/
theorem Held.kept {s t : Vec Ideal S64x512 .f32} {n : Vec Ideal S1x64 .f32} (h : Held m c 784 s t n) (b : Fin 64) :
    n (ix2 0 b) = kept (mask m c) b := by
  rw [h.counts]
  exact sum_positions fun h w => weight (mask m c) b h w

/-- The kernel's result at row `b`, column `l` is the pooled array of its arguments there. -/
theorem kernelResult_apply (b : Fin 64) (l : Fin 1024) :
    (Cert.KernelIdeal.Value.G2 m c : Vec Ideal S64x1024 .f32) (ix2 b l) = pooledAt (images m c) (mask m c) b l := by
  have hN : cfg0.N = 14 := N_0
  have h13 : 13 < cfg0.N := by omega
  have h12 := held m c 12 (Nat.lt_of_succ_lt h13)
  rw [Cert.KernelIdeal.Value.G2_last, ← Cert.KernelIdeal.Value.outsAt0_sweep m c 13 h13,
    Cert.KernelIdeal.Value.outsAt0_succ]
  generalize outsAt0 m c 12 (Nat.lt_of_succ_lt h13) = acc at h12 ⊢
  have hk := held_next m c ⟨13, h13⟩ _ _ _ h12
  rw [Cert.KernelIdeal.Value.stAt0_C m c ⟨13, h13⟩ acc (show ¬13 % 14 = 0 by decide) (show 1 ≤ 13 by decide)
    (show 13 % 14 = 13 by decide)]
  dsimp only
  unfold pooledAt
  split
  · rename_i hl
    refine (lastPoint_left (b := b) (k := ⟨l.val, hl⟩) ..).trans ?_
    rw [lastRatio]
    exact congrArg₂ ratio (hk.total m c b _) (hk.kept m c b)
  · rename_i hl
    have hlt := l.isLt
    have e : l = ⟨512 + (l.val - 512), by omega⟩ := Fin.ext (by dsimp only; omega)
    rw [congrArg (ix2 b) e]
    exact (lastPoint_right (b := b) (k := ⟨l.val - 512, by omega⟩) ..).trans (hk.largest m c b _)

end Cert.Pool

end
-- ==== Proof.Reference.lean ====
/-
  What the reference computes: its result term, read at an index, is the pooled array of the images and the mask.
-/
module

public import proofs.«01_k».proof.Proof.Spec
public import proofs.«01_k».proof.Proof.Gen.ReferenceIdeal

@[expose] public section

set_option maxRecDepth 16384

noncomputable section

namespace Cert.Pool

open Idealize.ShloMosaic Cert.ReferenceIdeal Cert.ReferenceIdeal.Gen

/-- The reference's masked totals: the contraction of the images with the mask over rows and columns, and each
    channel's first pixel. -/
def refTotal (x : FVec Ideal S64x512x28x28 .f32) (v : IVec S64x28x28 1) : FVec Ideal S64x512 .f32 :=
  addf (Host.dotGeneral dot_S64x512x28x28_S64x28x28_S64x512_23_12_1_n_0_0 none x (uitofp .f32 v : FVec Ideal S64x28x28 .f32))
    (shapeCast S64x512 (extractStridedSlice S64x512x1x1 ![0, 0, 0, 0] x slices_S64x512x28x28_S64x512x1x1_0_0_0_0)
      shapeCasts_S64x512x1x1_S64x512)

/-- The reference's counts: the mask summed over rows and columns. -/
def refCount (v : IVec S64x28x28 1) : FVec Ideal S64 .f32 :=
  Host.reduceAdd (uitofp .f32 v) (constant S_ .f32 0x00000000#32) reducesTo_S64x28x28_S64_d1_2 h_S_

/-- The reference's denominators, one to a row, spread over the channels. -/
def refDenom (v : IVec S64x28x28 1) : FVec Ideal S64x512 .f32 :=
  broadcastInDim S64x512 ![0, 1] bcast_S64x1_S64x512_0_1 (broadcastInDim S64x1 ![0] bcast_S64_S64x1_0
    (select (cmpf .oeq (refCount v) (broadcastInDim S64 ![] bcast_S_S64 (constant S_ .f32 0x00000000#32)))
      (broadcastInDim S64 ![] bcast_S_S64 (constant S_ .f32 0x3F800000#32)) (refCount v)))

/-- The reference's maxima. -/
def refMax (x : FVec Ideal S64x512x28x28 .f32) : FVec Ideal S64x512 .f32 :=
  Host.reduce (FloatOps.maximumf (F := Ideal) (φ := .f32)) x (constant S_ .f32 0xFF800000#32)
    reducesTo_S64x512x28x28_S64x512_d2_3 h_S_

/-- The reference's result: the quotients beside the maxima. -/
def refResult (x : FVec Ideal S64x512x28x28 .f32) (v : IVec S64x28x28 1) : FVec Ideal S64x1024 .f32 :=
  concatenate S64x1024 1 [⟨S64x512, Host.divf (refTotal x v) (refDenom v)⟩, ⟨S64x512, refMax x⟩]
    concatenates_S64x512_S64x512_S64x1024_d1

/-- The contraction is the sum of the kept pixels, and the slice is the first pixel. -/
theorem refTotal_apply (x : FVec Ideal S64x512x28x28 .f32) (v : IVec S64x28x28 1) (b : Fin 64) (k : Fin 512) :
    refTotal x v (ix2 b k) = total x v b k := by
  pointwise [refTotal]
  rfl

/-- The summed mask is the number of kept pixels. -/
theorem refCount_apply (v : IVec S64x28x28 1) (b : Fin 64) : refCount v (ix1 b) = kept v b := by
  pointwise [refCount]
  rfl

/-- A row's denominator is its count, or one where the count is zero. -/
theorem refDenom_apply (v : IVec S64x28x28 1) (b : Fin 64) (k : Fin 512) :
    refDenom v (ix2 b k) = if kept v b = 0 then 1 else kept v b := by
  pointwise [refDenom]
  rw [refCount_apply]

/-- The reference's maximum over rows and columns is the largest pixel. -/
theorem refMax_apply (x : FVec Ideal S64x512x28x28 .f32) (b : Fin 64) (k : Fin 512) :
    refMax x (ix2 b k) = largest x b k := by
  pointwise [refMax]
  rfl

/-- The reference's result at row `b`, column `l` is the pooled array there. -/
theorem refResult_apply (x : FVec Ideal S64x512x28x28 .f32) (v : IVec S64x28x28 1) (b : Fin 64) (l : Fin 1024) :
    refResult x v (ix2 b l) = pooledAt x v b l := by
  pointwise [refResult]
  unfold pooledAt ratio
  split
  · rw [refTotal_apply, refDenom_apply]
  · rw [refMax_apply]

end Cert.Pool

end
-- ==== Proof.lean ====
/-
  The proof of `Cert.Claim`, put together from the modules beside it. The kernel's run ends with its result array at a
  fold over the grid points, which `kernelResult_apply` reads as the pooled array of the arguments; the reference's run
  ends with its result at a term of host operations, which `refResult_apply` reads as the same array.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Running
public import proofs.«01_k».proof.Proof.Reference

@[expose] public section

noncomputable section

namespace Cert.Proof

open Idealize.ShloMosaic Idealize.SL.Sem

/-- The reference's executions all end, with its arguments as they were and no semaphore left raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On launch memories that agree on the arguments, the reference's result is the kernel's: both are the pooled array. -/
theorem result_eq (m : (ℓ : Loc Cert.KernelIdeal.nD Cert.KernelIdeal.τ Cert.KernelIdeal.sig) → Buf (Elt Ideal) ℓ)
    (c : Dev Cert.KernelIdeal.nD) :
    Cert.Pool.refResult (Cert.Pool.images m c) (Cert.Pool.mask m c) = Cert.KernelIdeal.Value.G2 m c := by
  funext j
  obtain ⟨b, l, rfl⟩ : ∃ (b : Fin 64) (l : Fin 1024), j = ix2 b l := ⟨j 0, j 1, eq_ix2 j⟩
  exact (Cert.Pool.refResult_apply _ _ b l).trans (Cert.Pool.kernelResult_apply m c b l).symm

/-- The kernel and the reference, over the extended reals, end with equal results from equal arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2]
  exact result_eq m c

/-- The certificate's claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
